-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "two_s_k" .bf16 0x3D92#16 ((80338380498831 / 1125899906842624 : ℝ) : EReal)
  ∧ IdealRules.named_const.Statement Cert.KernelIdeal.κ "two_s" .bf16 0x3FCC#16 ((6693141 / 4194304 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x512 : Shape := ⟨2, ![16384, 512]⟩
abbrev S17 : Shape := ⟨1, ![17]⟩
abbrev S512x512 : Shape := ⟨2, ![512, 512]⟩
abbrev S4096x512 : Shape := ⟨2, ![4096, 512]⟩

abbrev nBuf : Space → Nat
  | .hbm => 4
  | .vmem => 5
  | .smem => 0
  | _ => 0

abbrev bufTy : (tb : Table) → Fin (tcTables nBuf tb) → BufTy
  | .hbm, ⟨0, _⟩ => ⟨S16384x512, .f32⟩
  | .hbm, ⟨1, _⟩ => ⟨S17, .i32⟩
  | .hbm, ⟨2, _⟩ => ⟨S512x512, .f32⟩
  | .hbm, ⟨3, _⟩ => ⟨S16384x512, .f32⟩
  | .local _ .vmem, ⟨0, _⟩ => ⟨S4096x512, .f32⟩
  | .local _ .vmem, ⟨1, _⟩ => ⟨S4096x512, .f32⟩
  | .local _ .vmem, ⟨2, _⟩ => ⟨S512x512, .f32⟩
  | .local _ .vmem, ⟨3, _⟩ => ⟨S4096x512, .f32⟩
  | .local _ .vmem, ⟨4, _⟩ => ⟨S4096x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "two_s" => some ((6693141 / 4194304 : ℝ) : EReal)
  | "two_s_k" => some ((80338380498831 / 1125899906842624 : ℝ) : EReal)
  | _ => none
-- ==== ReferenceIdeal.lean ====
abbrev S16384x512 : Shape := ⟨2, ![16384, 512]⟩
abbrev S17 : Shape := ⟨1, ![17]⟩
abbrev S512x512 : Shape := ⟨2, ![512, 512]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S17, .i32⟩
  | .hbm, ⟨2, _⟩ => ⟨S512x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S_, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S_, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S_, .f32⟩
  | .hbm, ⟨15, _⟩ => ⟨S16384x512, .f32⟩
  | .hbm, ⟨16, _⟩ => ⟨S16384x512, .f32⟩
  | .hbm, ⟨17, _⟩ => ⟨S_, .f32⟩
  | .hbm, ⟨18, _⟩ => ⟨S16384x512, .f32⟩
  | .hbm, ⟨19, _⟩ => ⟨S16384x512, .f32⟩
  | .hbm, ⟨20, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Proof.Gelu.lean ====
/- The scalar mathematics: the gelu written by the logistic and the gelu written by the hyperbolic tangent are one
   function on all extended reals. -/
module

public import Idealize.ShloMosaic.PureOps.Ideal
public import Idealize.ShloMosaic.Lib.IdealHost

@[expose] public section

noncomputable section

namespace Cert.Gelu

open Idealize.ShloMosaic

/-- The kernel's form of the gelu: `a · σ(a · (p + q · (a · a)))`, with `σ` the logistic. -/
def byLogistic (p q : ℝ) (a : EReal) : EReal :=
  a * Ideal.logistic (a * ((p : EReal) + (q : EReal) * (a * a)))

/-- The reference's form of the gelu: `a · (½ · (1 + tanh (s · (a + k · a³))))`. -/
def byTanh (s k : ℝ) (a : EReal) : EReal :=
  a * (((1 / 2 : ℝ) : EReal) * (1 + Ideal.tanh ((s : EReal) * (a + (k : EReal) * (a * a * a)))))

/-- On the reals, `1 / (1 + e^(-2y)) = ½ (1 + tanh y)`. -/
theorem inv_one_add_exp (y : ℝ) : (1 + Real.exp (-(2 * y)))⁻¹ = 1 / 2 * (1 + Real.tanh y) := by
  have hp : 0 < Real.exp y := Real.exp_pos y
  have hn : Real.exp (-y) = (Real.exp y)⁻¹ := Real.exp_neg y
  have h2 : Real.exp (-(2 * y)) = (Real.exp y)⁻¹ * (Real.exp y)⁻¹ := by
    rw [← hn, ← Real.exp_add]; congr 1; ring
  rw [Real.tanh_eq_sinh_div_cosh, Real.sinh_eq, Real.cosh_eq, hn, h2]
  have : 0 < (Real.exp y)⁻¹ := by positivity
  field_simp
  ring

/-- The logistic of a real number is the real number `1 / (1 + e^(-x))`. -/
theorem logistic_coe (x : ℝ) : Ideal.logistic (x : EReal) = (((1 + Real.exp (-x))⁻¹ : ℝ) : EReal) := by
  have h : (1 + Real.exp (-x)) ≠ 0 := by have := Real.exp_pos (-x); positivity
  have e : (1 : EReal) + Ideal.exp (-(x : EReal)) = ((1 + Real.exp (-x) : ℝ) : EReal) := by
    rw [← EReal.coe_neg]; rfl
  rw [Ideal.logistic, e, Ideal.div, if_neg (by exact_mod_cast h), one_mul, EReal.coe_inv]

/-- At `+∞` the logistic is one, -/
theorem logistic_top : Ideal.logistic ⊤ = 1 := by
  have e : Ideal.exp (-(⊤ : EReal)) = 0 := by rw [EReal.neg_top]; rfl
  rw [Ideal.logistic, e, add_zero, Ideal.div, if_neg one_ne_zero, one_mul]
  rw [← EReal.coe_one, ← EReal.coe_inv, inv_one]

/-- and at `-∞` it is zero. -/
theorem logistic_bot : Ideal.logistic ⊥ = 0 := by
  have e : Ideal.exp (-(⊥ : EReal)) = ⊤ := by rw [EReal.neg_bot]; rfl
  have e' : (1 : EReal) + ⊤ = ⊤ := EReal.coe_add_top 1
  rw [Ideal.logistic, e, e', Ideal.div, if_neg EReal.top_ne_zero, EReal.inv_top, mul_zero]

/-- The two forms agree at a real number, for any constants. -/
theorem forms_coe (s k a : ℝ) : byLogistic (2 * s) (2 * s * k) a = byTanh s k a := by
  have e1 : (a : EReal) * (((2 * s : ℝ) : EReal) + ((2 * s * k : ℝ) : EReal) * ((a : EReal) * a))
      = ((2 * (s * (a + k * (a * a * a))) : ℝ) : EReal) := by
    simp only [← EReal.coe_mul, ← EReal.coe_add]; congr 1; ring
  have e2 : (s : EReal) * ((a : EReal) + (k : EReal) * ((a : EReal) * a * a))
      = ((s * (a + k * (a * a * a)) : ℝ) : EReal) := by
    simp only [← EReal.coe_mul, ← EReal.coe_add]
  have e3 : ∀ y : ℝ, Ideal.tanh (y : EReal) = ((Real.tanh y : ℝ) : EReal) := fun _ => rfl
  rw [byLogistic, byTanh, e1, e2, e3, logistic_coe, inv_one_add_exp, EReal.coe_mul, EReal.coe_add, EReal.coe_one]

/-- The two forms agree on all extended reals when the constants are positive: at `+∞` both are `+∞`, at `-∞` both
    are `-∞ · 0`, which is zero here. -/
theorem forms_eq {s k : ℝ} (hs : 0 < s) (hk : 0 < k) (a : EReal) :
    byLogistic (2 * s) (2 * s * k) a = byTanh s k a := by
  have h2s : 0 < 2 * s := by positivity
  have hq : 0 < 2 * s * k := by positivity
  induction a with
  | coe a => exact forms_coe s k a
  | top =>
    have l : (⊤ : EReal) * (((2 * s : ℝ) : EReal) + ((2 * s * k : ℝ) : EReal) * (⊤ * ⊤)) = ⊤ := by
      rw [EReal.top_mul_top, EReal.coe_mul_top_of_pos hq, EReal.coe_add_top, EReal.top_mul_top]
    have r : (s : EReal) * ((⊤ : EReal) + (k : EReal) * (⊤ * ⊤ * ⊤)) = ⊤ := by
      rw [EReal.top_mul_top, EReal.top_mul_top, EReal.coe_mul_top_of_pos hk, EReal.top_add_top,
        EReal.coe_mul_top_of_pos hs]
    have t : Ideal.tanh ⊤ = 1 := rfl
    have h : ((1 / 2 : ℝ) : EReal) * (1 + 1) = 1 := by
      rw [← EReal.coe_one, ← EReal.coe_add, ← EReal.coe_mul]; norm_num
    rw [byLogistic, byTanh, l, r, logistic_top, t, h]
  | bot =>
    have l : (⊥ : EReal) * (((2 * s : ℝ) : EReal) + ((2 * s * k : ℝ) : EReal) * (⊥ * ⊥)) = ⊥ := by
      rw [EReal.bot_mul_bot, EReal.coe_mul_top_of_pos hq, EReal.coe_add_top, EReal.bot_mul_top]
    have r : (s : EReal) * ((⊥ : EReal) + (k : EReal) * (⊥ * ⊥ * ⊥)) = ⊥ := by
      rw [EReal.bot_add, EReal.coe_mul_bot_of_pos hs]
    have t : Ideal.tanh ⊥ = -1 := rfl
    have h : (1 : EReal) + -1 = 0 := by
      rw [← EReal.coe_one, ← EReal.coe_neg, ← EReal.coe_add]; norm_num
    rw [byLogistic, byTanh, l, r, logistic_bot, t, h]; simp only [mul_zero]

end Cert.Gelu

end
-- ==== Proof.Consts.lean ====
/- The float constants that the two programs spell, as the extended reals that they denote. -/
module

public import Idealize.ShloMosaic.PureOps.Ideal

@[expose] public section

noncomputable section

namespace Cert.Consts

open Idealize.ShloMosaic

/-- The f32 number nearest `√(2/π)`, by which the reference scales the argument of the tanh. -/
def s : ℝ := 6693141 / 8388608

/-- The f32 number nearest `0.044715`, the weight of the cube in the reference. -/
def k : ℝ := 12003091 / 268435456

/-- The reference's scale denotes `s`. -/
theorem ofBits_s : Ideal.ofBits .f32 0x3F4C422A#32 = ((s : ℝ) : EReal) := by
  simp [Ideal.ofBits, Ideal.ieee, s, -EReal.coe_mul]; norm_num

/-- The reference's weight of the cube denotes `k`. -/
theorem ofBits_k : Ideal.ofBits .f32 0x3D372713#32 = ((k : ℝ) : EReal) := by
  simp [Ideal.ofBits, Ideal.ieee, k, -EReal.coe_mul]; norm_num

/-- The reference's `0.5` denotes one half. -/
theorem ofBits_half : Ideal.ofBits .f32 0x3F000000#32 = ((1 / 2 : ℝ) : EReal) := by
  simp [Ideal.ofBits, Ideal.ieee, -EReal.coe_mul]; norm_num

theorem s_pos : 0 < s := by unfold s; norm_num
theorem k_pos : 0 < k := by unfold k; norm_num

/-- The number that the kernel's first constant is named is `2 s`. -/
theorem two_s : (6693141 / 4194304 : ℝ) = 2 * s := by unfold s; norm_num

/-- The number that the kernel's second constant is named is `2 s k`. -/
theorem two_s_k : (80338380498831 / 1125899906842624 : ℝ) = 2 * s * k := by unfold s k; norm_num

end Cert.Consts

end
-- ==== Proof.Spec.lean ====
/- The function that both programs compute, of one token's row and one output feature. -/
module

public import proofs.«01_k».proof.Proof.Gelu
public import proofs.«01_k».proof.Proof.Consts
public import Idealize.ShloMosaic.Lib.Pointwise

@[expose] public section

noncomputable section

namespace Cert.Spec

open Idealize.ShloMosaic Cert.Consts

/-- Entry `(r, c)` of the product of the tokens and the weight: the sum over the 512 input features. -/
def product (x : (⟨2, ![16384, 512]⟩ : Shape).Idx → EReal) (w : (⟨2, ![512, 512]⟩ : Shape).Idx → EReal)
    (r : Fin 16384) (c : Fin 512) : EReal :=
  ∑ d : Fin 512, x (ix2 r d) * w (ix2 d c)

/-- The layer's output: the gelu, in the reference's form, of each entry of the product. -/
def layer (x : (⟨2, ![16384, 512]⟩ : Shape).Idx → EReal) (w : (⟨2, ![512, 512]⟩ : Shape).Idx → EReal) :
    (⟨2, ![16384, 512]⟩ : Shape).Idx → EReal :=
  fun i => Gelu.byTanh s k (product x w (i 0) (i 1))

end Cert.Spec

end
-- ==== Proof.KernelValue.lean ====
/- What the kernel computes: a grid point writes the layer's rows of its own block of tokens, and the four blocks make
   up the whole result. -/
module

public import proofs.«01_k».proof.Proof.Spec
public import proofs.«01_k».proof.Proof.Gen.KernelIdeal.Value
public import Idealize.ShloMosaic.Lib.Pipeline.ValueKit

@[expose] public section

set_option maxRecDepth 16384

noncomputable section

namespace Cert.KernelValue

open Idealize.ShloMosaic Idealize.ShloMosaic.TcCoe Idealize.SL.Sem
open Cert.KernelIdeal Cert.KernelIdeal.Gen Cert.Consts

/-- The kernel's first named constant denotes `2 s`, -/
theorem named_two_s : Named.named (F := Ideal) κ "two_s" (φ := .bf16) 0x3FCC#16 = ((2 * s : ℝ) : EReal) :=
  (IdealRules.named_const.ideal_named_scalar _ _ _ _ rfl).trans (congrArg _ two_s)

/-- and its second `2 s k`. -/
theorem named_two_s_k : Named.named (F := Ideal) κ "two_s_k" (φ := .bf16) 0x3D92#16 = ((2 * s * k : ℝ) : EReal) :=
  (IdealRules.named_const.ideal_named_scalar _ _ _ _ rfl).trans (congrArg _ two_s_k)

/-- What one block computes: from 4096 rows of tokens and the weight, entry by entry the gelu, in the logistic form,
    of the product. -/
theorem block_apply (x : FVec Ideal S4096x512 .f32) (w : FVec Ideal S512x512 .f32) (j : S4096x512.Idx) :
    k0_pay1 (F := Ideal) x w j = Gelu.byLogistic (2 * s) (2 * s * k) (∑ d : Fin 512, x (ix2 (j 0) d) * w (ix2 d (j 1))) := by
  pointwise [k0_pay1, Gelu.byLogistic, named_two_s, named_two_s_k]

/-- The block of tokens that a point reads has the place of the block of results that it writes; the weight is one
    block. -/
theorem places : ∀ t : Fin grid0.N, win0_0.index t = ![(grid0.coords t 0).val, 0] ∧ win0_1.index t = ![0, 0]
    ∧ win0_2.index t = ![(grid0.coords t 0).val, 0] := by decide +kernel

variable (m : (ℓ : Loc nD τ sig) → Buf (Elt Ideal) ℓ)

/-- The result array after the run is the layer of the two argument arrays. -/
theorem final (c : Dev nD) : (dats m 0 c).arrAt 2 cfg0.N
    = Spec.layer (m ((c.tc : Thread nD τ).loc main_arg0)) (m ((c.tc : Thread nD τ).loc main_arg2)) := by
  refine (dats m 0 c).arrAt_eq_of_covers 2 _ (by decide +kernel) fun t hf y => ?_
  blk_simp
  rw [after0_2]
  frame_out
  rw [block_apply, Gelu.forms_eq s_pos k_pos]
  unfold Spec.layer Spec.product
  obtain ⟨h0, h1, h2⟩ := places t
  congr 1
  refine Finset.sum_congr rfl fun d _ => ?_
  congr 1 <;> blk_ext [iblk, V, h0, h1, h2]

/-- Every execution of the kernel ends with its result at the layer of its arguments, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v0)
        = Spec.layer (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩)
    (Cert.KernelIdeal.Value.run_blocks (F := Ideal) m ρ)

end Cert.KernelValue

end
-- ==== Proof.RefValue.lean ====
/- What the reference computes: the composed term of its host operations is the layer, entry by entry. -/
module

public import proofs.«01_k».proof.Proof.Spec
public import proofs.«01_k».proof.Proof.Gen.ReferenceIdeal.Run

@[expose] public section

set_option maxRecDepth 16384

noncomputable section

namespace Cert.RefValue

open Idealize.ShloMosaic Idealize.ShloMosaic.TcCoe Idealize.SL.Sem
open Cert.ReferenceIdeal Cert.ReferenceIdeal.Gen Cert.Consts

/-- The reference's result, as the term that its run leaves, is the layer of its two arrays. -/
theorem term_eq (x : FVec Ideal S16384x512 .f32) (w : FVec Ideal S512x512 .f32) :
    mulf (Host.dotGeneral dot_S16384x512_S512x512_S16384x512_1_0_0_1_n_n none x w)
      (mulf (broadcastInDim S16384x512 ![] bcast_S_S16384x512 (constant S_ .f32 0x3F000000#32))
        (addf (broadcastInDim S16384x512 ![] bcast_S_S16384x512 (constant S_ .f32 0x3F800000#32))
          (Host.tanh (mulf (broadcastInDim S16384x512 ![] bcast_S_S16384x512 (constant S_ .f32 0x3F4C422A#32))
            (addf (Host.dotGeneral dot_S16384x512_S512x512_S16384x512_1_0_0_1_n_n none x w)
              (mulf (broadcastInDim S16384x512 ![] bcast_S_S16384x512 (constant S_ .f32 0x3D372713#32))
                (mulf (mulf (Host.dotGeneral dot_S16384x512_S512x512_S16384x512_1_0_0_1_n_n none x w)
                    (Host.dotGeneral dot_S16384x512_S512x512_S16384x512_1_0_0_1_n_n none x w))
                  (Host.dotGeneral dot_S16384x512_S512x512_S16384x512_1_0_0_1_n_n none x w))))))))
    = Spec.layer x w := by
  funext i
  pointwise [Spec.layer, Spec.product, Gelu.byTanh, ofBits_s, ofBits_k, ofBits_half]

/-- Every execution of the reference ends with its result at the layer of its arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13)
        = Spec.layer (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (term_eq _ _), (h c).2⟩)
    (Cert.ReferenceIdeal.Value.run (F := Ideal) m ρ)

end Cert.RefValue

end
-- ==== Proof.lean ====
/- The proof of the certificate's claim, put together: the frames of the three programs, the two named constants, and
   the equality of what kernel and reference compute over the extended reals. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.KernelValue
public import proofs.«01_k».proof.Proof.RefValue
public import Idealize.ShloMosaic.Lib.Quiescent

@[expose] public section

noncomputable section

namespace Cert.Proof

open Idealize.ShloMosaic Idealize.ShloMosaic.TcCoe Idealize.SL.Sem

/-- The reference terminates, keeps its arguments, and has no semaphore whose counter could end elsewhere than at
    zero. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.RefValue.run m ρ)

/-- The ideal program is the kernel with its two constants named as its table says. -/
theorem preserves : Cert.preserves_Kernel_KernelIdeal :=
  ⟨IdealRules.named_const.statement _ _ _ _ _ rfl, IdealRules.named_const.statement _ _ _ _ _ rfl⟩

/-- From equal arguments both programs end with the layer of those arguments. -/
theorem algebraic : Cert.algebraic_KernelIdeal_ReferenceIdeal := by
  intro m ρ m' ρ' _ hagree
  refine ⟨_, Cert.KernelValue.run m ρ, ?_⟩
  refine (θ_run Cert.ReferenceIdeal.defs _ _).mono (fun _ h c => ⟨(h c).1.trans ?_, (h c).2⟩)
    (Cert.RefValue.run m' ρ')
  rw [(hagree c).1, (hagree c).2.2]

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, preserves,
  algebraic⟩

end Cert.Proof

end
